-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes [hPre_codes : Cert.Pre_codes.Facts] (m : (ℓ : Loc Cert.KernelIdeal.nD Cert.KernelIdeal.τ Cert.KernelIdeal.sig) → Buf (Elt Ideal) ℓ) : Prop :=
  ∀ c : Dev Cert.KernelIdeal.nD,
    (Cert.Pre_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes [hPre_codes : Cert.Pre_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codes [hKernelIdeal : Cert.KernelIdeal.Facts] [hPre_codes : Cert.Pre_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codes [hReferenceIdeal : Cert.ReferenceIdeal.Facts] [hPre_codes : Cert.Pre_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codes [hKernelIdeal : Cert.KernelIdeal.Facts] [hReferenceIdeal : Cert.ReferenceIdeal.Facts] [hPre_codes : Cert.Pre_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codes : Cert.Pre_codes.Facts),
    quiescent_Kernel (hKernel := hKernel)
    ∧ quiescent_KernelIdeal (hKernelIdeal := hKernelIdeal)
    ∧ quiescent_KernelIdeal_pre_codes (hKernelIdeal := hKernelIdeal) (hPre_codes := hPre_codes)
    ∧ quiescent_ReferenceIdeal (hReferenceIdeal := hReferenceIdeal)
    ∧ quiescent_ReferenceIdeal_pre_codes (hReferenceIdeal := hReferenceIdeal) (hPre_codes := hPre_codes)
    ∧ preserves_Kernel_KernelIdeal
    ∧ algebraic_KernelIdeal_ReferenceIdeal_pre_codes (hKernelIdeal := hKernelIdeal) (hReferenceIdeal := hReferenceIdeal) (hPre_codes := hPre_codes)
-- ==== Pre_codes.lean ====
abbrev S2x128x14336 : Shape := ⟨3, ![2, 128, 14336]⟩
abbrev S14336x1024 : Shape := ⟨2, ![14336, 1024]⟩
abbrev S_ : Shape := ⟨0, ![]⟩

class Facts : Prop where
  natLt_8_32 : 8 < 32
  bcast_S_S14336x1024 : S_.BroadcastsInDim S14336x1024 (![] : Fin 0 → Fin S14336x1024.rank)
  reducesTo_S14336x1024_S_d0_1 : S14336x1024.ReducesTo [0, 1] S_
  h_S_ : 0 < S_.numel

variable [Facts]

def fn {F : FTy → Type} [FloatOps F] (main_arg0 : FVec F S2x128x14336 .bf16) (main_arg1 : IVec S14336x1024 8) (main_arg2 : FVec F S_ .f32) : IVec S_ 1 :=
  let main_v0 : IVec S14336x1024 32 := (extui 32 · natLt_8_32) main_arg1
  let main_c : IVec S_ 32 := constantI S_ 32 242#32
  let main_v1 : IVec S14336x1024 32 := broadcastInDim S14336x1024 ![] bcast_S_S14336x1024 main_c
  let main_v2 : IVec S14336x1024 1 := cmpi .sle main_v0 main_v1
  let main_c_0 : IVec S_ 1 := constantI S_ 1 1#1
  let main_v3 : IVec S_ 1 := (fun x v => Host.reduce IntOp.andi x v reducesTo_S14336x1024_S_d0_1 h_S_) main_v2 main_c_0
  main_v3
-- ==== Kernel.lean ====
abbrev S2x128x14336 : Shape := ⟨3, ![2, 128, 14336]⟩
abbrev S14336x1024 : Shape := ⟨2, ![14336, 1024]⟩
abbrev S_ : Shape := ⟨0, ![]⟩
abbrev S1 : Shape := ⟨1, ![1]⟩
abbrev S256x14336 : Shape := ⟨2, ![256, 14336]⟩
abbrev S256x5120 : Shape := ⟨2, ![256, 5120]⟩
abbrev S256x1024 : Shape := ⟨2, ![256, 1024]⟩
abbrev S1024x1024 : Shape := ⟨2, ![1024, 1024]⟩
abbrev S2x128x5120 : Shape := ⟨3, ![2, 128, 5120]⟩

abbrev nBuf : Space → Nat
  | .hbm => 7
  | .vmem => 6
  | .smem => 1
  | _ => 0

abbrev bufTy : (tb : Table) → Fin (tcTables nBuf tb) → BufTy
  | .hbm, ⟨0, _⟩ => ⟨S2x128x14336, .bf16⟩
  | .hbm, ⟨1, _⟩ => ⟨S14336x1024, .i8⟩
  | .hbm, ⟨2, _⟩ => ⟨S_, .f32⟩
  | .hbm, ⟨3, _⟩ => ⟨S1, .f32⟩
  | .hbm, ⟨4, _⟩ => ⟨S256x14336, .bf16⟩
  | .hbm, ⟨5, _⟩ => ⟨S256x5120, .bf16⟩
  | .hbm, ⟨6, _⟩ => ⟨S2x128x5120, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .i8⟩
  | .local _ .vmem, ⟨3, _⟩ => ⟨S1024x1024, .i8⟩
  | .local _ .vmem, ⟨4, _⟩ => ⟨S256x5120, .bf16⟩
  | .local _ .vmem, ⟨5, _⟩ => ⟨S256x5120, .f32⟩
  | .local _ .smem, ⟨0, _⟩ => ⟨S1, .f32⟩
  | _, _ => ⟨S2x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v71 : BitVec 1 := Scalar.cmpi .eq arg0 c13_i32
  let v72 : BitVec 32 := Scalar.extui v71
  let c0_i32_41 : BitVec 32 := 0#32
  let v73 : BitVec 1 := Scalar.cmpi .ne v72 c0_i32_41
  v73

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x128x14336 : Shape := ⟨3, ![2, 128, 14336]⟩
abbrev S14336x1024 : Shape := ⟨2, ![14336, 1024]⟩
abbrev S_ : Shape := ⟨0, ![]⟩
abbrev S256x14336 : Shape := ⟨2, ![256, 14336]⟩
abbrev S256x1024 : Shape := ⟨2, ![256, 1024]⟩
abbrev S256x5120 : Shape := ⟨2, ![256, 5120]⟩
abbrev S2x128x5120 : Shape := ⟨3, ![2, 128, 5120]⟩

abbrev nBuf : Space → Nat
  | .hbm => 247
  | .vmem => 0
  | .smem => 0
  | _ => 0

abbrev hbmTy0_0 (i : Nat) : BufTy := match i % 128 with
  | 0 => ⟨S2x128x14336, .bf16⟩
  | 1 => ⟨S14336x1024, .i8⟩
  | 2 => ⟨S_, .f32⟩
  | 3 => ⟨S256x14336, .bf16⟩
  | 4 => ⟨S14336x1024, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S14336x1024, .i32⟩
  | 12 => ⟨S14336x1024, .i32⟩
  | 13 => ⟨S_, .i32⟩
  | 14 => ⟨S14336x1024, .i32⟩
  | 15 => ⟨S14336x1024, .i1⟩
  | 16 => ⟨S_, .i32⟩
  | 17 => ⟨S14336x1024, .i32⟩
  | 18 => ⟨S14336x1024, .i1⟩
  | 19 => ⟨S_, .i32⟩
  | 20 => ⟨S_, .i1⟩
  | 21 => ⟨S14336x1024, .i1⟩
  | 22 => ⟨S14336x1024, .i1⟩
  | 23 => ⟨S14336x1024, .i1⟩
  | 24 => ⟨S14336x1024, .i32⟩
  | 25 => ⟨S14336x1024, .i32⟩
  | 26 => ⟨S14336x1024, .i32⟩
  | 27 => ⟨S14336x1024, .bf16⟩
  | 28 => ⟨S_, .bf16⟩
  | 29 => ⟨S14336x1024, .bf16⟩
  | 30 => ⟨S14336x1024, .bf16⟩
  | 31 => ⟨S256x1024, .f32⟩
  | 32 => ⟨S256x1024, .f32⟩
  | 33 => ⟨S256x1024, .f32⟩
  | 34 => ⟨S256x1024, .bf16⟩
  | 35 => ⟨S_, .i32⟩
  | 36 => ⟨S_, .i32⟩
  | 37 => ⟨S14336x1024, .i32⟩
  | 38 => ⟨S14336x1024, .i32⟩
  | 39 => ⟨S14336x1024, .i32⟩
  | 40 => ⟨S_, .i32⟩
  | 41 => ⟨S14336x1024, .i32⟩
  | 42 => ⟨S14336x1024, .i1⟩
  | 43 => ⟨S14336x1024, .i32⟩
  | 44 => ⟨S14336x1024, .i32⟩
  | 45 => ⟨S_, .i32⟩
  | 46 => ⟨S14336x1024, .i32⟩
  | 47 => ⟨S14336x1024, .i1⟩
  | 48 => ⟨S14336x1024, .i1⟩
  | 49 => ⟨S_, .i32⟩
  | 50 => ⟨S14336x1024, .i32⟩
  | 51 => ⟨S14336x1024, .i32⟩
  | 52 => ⟨S14336x1024, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S14336x1024, .i32⟩
  | 60 => ⟨S14336x1024, .i32⟩
  | 61 => ⟨S_, .i32⟩
  | 62 => ⟨S14336x1024, .i32⟩
  | 63 => ⟨S14336x1024, .i1⟩
  | 64 => ⟨S_, .i32⟩
  | 65 => ⟨S14336x1024, .i32⟩
  | 66 => ⟨S14336x1024, .i1⟩
  | 67 => ⟨S_, .i32⟩
  | 68 => ⟨S_, .i1⟩
  | 69 => ⟨S14336x1024, .i1⟩
  | 70 => ⟨S14336x1024, .i1⟩
  | 71 => ⟨S14336x1024, .i1⟩
  | 72 => ⟨S14336x1024, .i32⟩
  | 73 => ⟨S14336x1024, .i32⟩
  | 74 => ⟨S14336x1024, .i32⟩
  | 75 => ⟨S14336x1024, .bf16⟩
  | 76 => ⟨S_, .bf16⟩
  | 77 => ⟨S14336x1024, .bf16⟩
  | 78 => ⟨S14336x1024, .bf16⟩
  | 79 => ⟨S256x1024, .f32⟩
  | 80 => ⟨S256x1024, .f32⟩
  | 81 => ⟨S256x1024, .f32⟩
  | 82 => ⟨S256x1024, .bf16⟩
  | 83 => ⟨S_, .i32⟩
  | 84 => ⟨S_, .i32⟩
  | 85 => ⟨S14336x1024, .i32⟩
  | 86 => ⟨S14336x1024, .i32⟩
  | 87 => ⟨S14336x1024, .i32⟩
  | 88 => ⟨S_, .i32⟩
  | 89 => ⟨S14336x1024, .i32⟩
  | 90 => ⟨S14336x1024, .i1⟩
  | 91 => ⟨S14336x1024, .i32⟩
  | 92 => ⟨S14336x1024, .i32⟩
  | 93 => ⟨S_, .i32⟩
  | 94 => ⟨S14336x1024, .i32⟩
  | 95 => ⟨S14336x1024, .i1⟩
  | 96 => ⟨S14336x1024, .i1⟩
  | 97 => ⟨S_, .i32⟩
  | 98 => ⟨S14336x1024, .i32⟩
  | 99 => ⟨S14336x1024, .i32⟩
  | 100 => ⟨S14336x1024, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S14336x1024, .i32⟩
  | 108 => ⟨S14336x1024, .i32⟩
  | 109 => ⟨S_, .i32⟩
  | 110 => ⟨S14336x1024, .i32⟩
  | 111 => ⟨S14336x1024, .i1⟩
  | 112 => ⟨S_, .i32⟩
  | 113 => ⟨S14336x1024, .i32⟩
  | 114 => ⟨S14336x1024, .i1⟩
  | 115 => ⟨S_, .i32⟩
  | 116 => ⟨S_, .i1⟩
  | 117 => ⟨S14336x1024, .i1⟩
  | 118 => ⟨S14336x1024, .i1⟩
  | 119 => ⟨S14336x1024, .i1⟩
  | 120 => ⟨S14336x1024, .i32⟩
  | 121 => ⟨S14336x1024, .i32⟩
  | 122 => ⟨S14336x1024, .i32⟩
  | 123 => ⟨S14336x1024, .bf16⟩
  | 124 => ⟨S_, .bf16⟩
  | 125 => ⟨S14336x1024, .bf16⟩
  | 126 => ⟨S14336x1024, .bf16⟩
  | 127 => ⟨S256x1024, .f32⟩
  | _ => ⟨S2x128x14336, .bf16⟩

abbrev hbmTy0_1 (i : Nat) : BufTy := match i % 128 with
  | 0 => ⟨S256x1024, .f32⟩
  | 1 => ⟨S256x1024, .f32⟩
  | 2 => ⟨S256x1024, .bf16⟩
  | 3 => ⟨S_, .i32⟩
  | 4 => ⟨S_, .i32⟩
  | 5 => ⟨S14336x1024, .i32⟩
  | 6 => ⟨S14336x1024, .i32⟩
  | 7 => ⟨S14336x1024, .i32⟩
  | 8 => ⟨S_, .i32⟩
  | 9 => ⟨S14336x1024, .i32⟩
  | 10 => ⟨S14336x1024, .i1⟩
  | 11 => ⟨S14336x1024, .i32⟩
  | 12 => ⟨S14336x1024, .i32⟩
  | 13 => ⟨S_, .i32⟩
  | 14 => ⟨S14336x1024, .i32⟩
  | 15 => ⟨S14336x1024, .i1⟩
  | 16 => ⟨S14336x1024, .i1⟩
  | 17 => ⟨S_, .i32⟩
  | 18 => ⟨S14336x1024, .i32⟩
  | 19 => ⟨S14336x1024, .i32⟩
  | 20 => ⟨S14336x1024, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S14336x1024, .i32⟩
  | 28 => ⟨S14336x1024, .i32⟩
  | 29 => ⟨S_, .i32⟩
  | 30 => ⟨S14336x1024, .i32⟩
  | 31 => ⟨S14336x1024, .i1⟩
  | 32 => ⟨S_, .i32⟩
  | 33 => ⟨S14336x1024, .i32⟩
  | 34 => ⟨S14336x1024, .i1⟩
  | 35 => ⟨S_, .i32⟩
  | 36 => ⟨S_, .i1⟩
  | 37 => ⟨S14336x1024, .i1⟩
  | 38 => ⟨S14336x1024, .i1⟩
  | 39 => ⟨S14336x1024, .i1⟩
  | 40 => ⟨S14336x1024, .i32⟩
  | 41 => ⟨S14336x1024, .i32⟩
  | 42 => ⟨S14336x1024, .i32⟩
  | 43 => ⟨S14336x1024, .bf16⟩
  | 44 => ⟨S_, .bf16⟩
  | 45 => ⟨S14336x1024, .bf16⟩
  | 46 => ⟨S14336x1024, .bf16⟩
  | 47 => ⟨S256x1024, .f32⟩
  | 48 => ⟨S256x1024, .f32⟩
  | 49 => ⟨S256x1024, .f32⟩
  | 50 => ⟨S256x1024, .bf16⟩
  | 51 => ⟨S_, .i32⟩
  | 52 => ⟨S_, .i32⟩
  | 53 => ⟨S14336x1024, .i32⟩
  | 54 => ⟨S14336x1024, .i32⟩
  | 55 => ⟨S14336x1024, .i32⟩
  | 56 => ⟨S_, .i32⟩
  | 57 => ⟨S14336x1024, .i32⟩
  | 58 => ⟨S14336x1024, .i1⟩
  | 59 => ⟨S14336x1024, .i32⟩
  | 60 => ⟨S14336x1024, .i32⟩
  | 61 => ⟨S_, .i32⟩
  | 62 => ⟨S14336x1024, .i32⟩
  | 63 => ⟨S14336x1024, .i1⟩
  | 64 => ⟨S14336x1024, .i1⟩
  | 65 => ⟨S_, .i32⟩
  | 66 => ⟨S14336x1024, .i32⟩
  | 67 => ⟨S14336x1024, .i32⟩
  | 68 => ⟨S14336x1024, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S14336x1024, .i32⟩
  | 76 => ⟨S14336x1024, .i32⟩
  | 77 => ⟨S_, .i32⟩
  | 78 => ⟨S14336x1024, .i32⟩
  | 79 => ⟨S14336x1024, .i1⟩
  | 80 => ⟨S_, .i32⟩
  | 81 => ⟨S14336x1024, .i32⟩
  | 82 => ⟨S14336x1024, .i1⟩
  | 83 => ⟨S_, .i32⟩
  | 84 => ⟨S_, .i1⟩
  | 85 => ⟨S14336x1024, .i1⟩
  | 86 => ⟨S14336x1024, .i1⟩
  | 87 => ⟨S14336x1024, .i1⟩
  | 88 => ⟨S14336x1024, .i32⟩
  | 89 => ⟨S14336x1024, .i32⟩
  | 90 => ⟨S14336x1024, .i32⟩
  | 91 => ⟨S14336x1024, .bf16⟩
  | 92 => ⟨S_, .bf16⟩
  | 93 => ⟨S14336x1024, .bf16⟩
  | 94 => ⟨S14336x1024, .bf16⟩
  | 95 => ⟨S256x1024, .f32⟩
  | 96 => ⟨S256x1024, .f32⟩
  | 97 => ⟨S256x1024, .f32⟩
  | 98 => ⟨S256x1024, .bf16⟩
  | 99 => ⟨S_, .i32⟩
  | 100 => ⟨S_, .i32⟩
  | 101 => ⟨S14336x1024, .i32⟩
  | 102 => ⟨S14336x1024, .i32⟩
  | 103 => ⟨S14336x1024, .i32⟩
  | 104 => ⟨S_, .i32⟩
  | 105 => ⟨S14336x1024, .i32⟩
  | 106 => ⟨S14336x1024, .i1⟩
  | 107 => ⟨S14336x1024, .i32⟩
  | 108 => ⟨S14336x1024, .i32⟩
  | 109 => ⟨S_, .i32⟩
  | 110 => ⟨S14336x1024, .i32⟩
  | 111 => ⟨S14336x1024, .i1⟩
  | 112 => ⟨S14336x1024, .i1⟩
  | 113 => ⟨S_, .i32⟩
  | 114 => ⟨S14336x1024, .i32⟩
  | 115 => ⟨S14336x1024, .i32⟩
  | 116 => ⟨S14336x1024, .i32⟩
  | 117 => ⟨S256x5120, .bf16⟩
  | 118 => ⟨S2x128x5120, .bf16⟩
  | _ => ⟨S2x128x14336, .bf16⟩

abbrev hbmTy (i : Nat) : BufTy := match i / 128 with
  | 0 => hbmTy0_0 i
  | 1 => hbmTy0_1 i
  | _ => ⟨S2x128x14336, .bf16⟩

abbrev bufTy : (tb : Table) → Fin (tcTables nBuf tb) → BufTy
  | .hbm, ⟨i, _⟩ => hbmTy i
  | _, _ => ⟨S2x128x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v10 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v11 : Ref sig .tc := ⟨.hbm, 74, rfl⟩
abbrev main_v12 : Ref sig .tc := ⟨.hbm, 75, rfl⟩
abbrev main_cst_2 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_c_3 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v19 : Ref sig .tc := ⟨.hbm, 100, rfl⟩
abbrev main_c_4 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_c_1 : Ref sig .tc := ⟨.hbm, 109, rfl⟩
abbrev main_call4_v5 : Ref sig .tc := ⟨.hbm, 110, rfl⟩
abbrev main_call4_v6 : Ref sig .tc := ⟨.hbm, 111, rfl⟩
abbrev main_call4_c_2 : Ref sig .tc := ⟨.hbm, 112, rfl⟩
abbrev main_call4_v7 : Ref sig .tc := ⟨.hbm, 113, rfl⟩
abbrev main_call4_v8 : Ref sig .tc := ⟨.hbm, 114, rfl⟩
abbrev main_call4_c_3 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_v20 : Ref sig .tc := ⟨.hbm, 122, rfl⟩
abbrev main_v21 : Ref sig .tc := ⟨.hbm, 123, rfl⟩
abbrev main_cst_5 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_c_6 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_c : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_0 : Ref sig .tc := ⟨.hbm, 145, rfl⟩
abbrev main_call5_v12 : Ref sig .tc := ⟨.hbm, 146, rfl⟩
abbrev main_call5_v13 : Ref sig .tc := ⟨.hbm, 147, rfl⟩
abbrev main_v28 : Ref sig .tc := ⟨.hbm, 148, rfl⟩
abbrev main_c_7 : Ref sig .tc := ⟨.hbm, 149, rfl⟩
abbrev main_call6_v0 : Ref sig .tc := ⟨.hbm, 150, rfl⟩
abbrev main_call6_c : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_c_1 : Ref sig .tc := ⟨.hbm, 157, rfl⟩
abbrev main_call6_v5 : Ref sig .tc := ⟨.hbm, 158, rfl⟩
abbrev main_call6_v6 : Ref sig .tc := ⟨.hbm, 159, rfl⟩
abbrev main_call6_c_2 : Ref sig .tc := ⟨.hbm, 160, rfl⟩
abbrev main_call6_v7 : Ref sig .tc := ⟨.hbm, 161, rfl⟩
abbrev main_call6_v8 : Ref sig .tc := ⟨.hbm, 162, rfl⟩
abbrev main_call6_c_3 : Ref sig .tc := ⟨.hbm, 163, rfl⟩
abbrev main_call6_v9 : Ref sig .tc := ⟨.hbm, 164, rfl⟩
abbrev main_call6_v10 : Ref sig .tc := ⟨.hbm, 165, rfl⟩
abbrev main_call6_v11 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_v29 : Ref sig .tc := ⟨.hbm, 170, rfl⟩
abbrev main_v30 : Ref sig .tc := ⟨.hbm, 171, rfl⟩
abbrev main_cst_8 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_c_9 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_v6 : Ref sig .tc := ⟨.hbm, 186, rfl⟩
abbrev main_call7_v7 : Ref sig .tc := ⟨.hbm, 187, rfl⟩
abbrev main_call7_v8 : Ref sig .tc := ⟨.hbm, 188, rfl⟩
abbrev main_call7_c : Ref sig .tc := ⟨.hbm, 189, rfl⟩
abbrev main_call7_v9 : Ref sig .tc := ⟨.hbm, 190, rfl⟩
abbrev main_call7_v10 : Ref sig .tc := ⟨.hbm, 191, rfl⟩
abbrev main_call7_v11 : Ref sig .tc := ⟨.hbm, 192, rfl⟩
abbrev main_call7_c_0 : Ref sig .tc := ⟨.hbm, 193, rfl⟩
abbrev main_call7_v12 : Ref sig .tc := ⟨.hbm, 194, rfl⟩
abbrev main_call7_v13 : Ref sig .tc := ⟨.hbm, 195, rfl⟩
abbrev main_v37 : Ref sig .tc := ⟨.hbm, 196, rfl⟩
abbrev main_c_10 : Ref sig .tc := ⟨.hbm, 197, rfl⟩
abbrev main_call8_v0 : Ref sig .tc := ⟨.hbm, 198, rfl⟩
abbrev main_call8_c : Ref sig .tc := ⟨.hbm, 199, rfl⟩
abbrev main_call8_v1 : Ref sig .tc := ⟨.hbm, 200, rfl⟩
abbrev main_call8_c_0 : Ref sig .tc := ⟨.hbm, 201, rfl⟩
abbrev main_call8_v2 : Ref sig .tc := ⟨.hbm, 202, rfl⟩
abbrev main_call8_v3 : Ref sig .tc := ⟨.hbm, 203, rfl⟩
abbrev main_call8_v4 : Ref sig .tc := ⟨.hbm, 204, rfl⟩
abbrev main_call8_c_1 : Ref sig .tc := ⟨.hbm, 205, rfl⟩
abbrev main_call8_v5 : Ref sig .tc := ⟨.hbm, 206, rfl⟩
abbrev main_call8_v6 : Ref sig .tc := ⟨.hbm, 207, rfl⟩
abbrev main_call8_c_2 : Ref sig .tc := ⟨.hbm, 208, rfl⟩
abbrev main_call8_v7 : Ref sig .tc := ⟨.hbm, 209, rfl⟩
abbrev main_call8_v8 : Ref sig .tc := ⟨.hbm, 210, rfl⟩
abbrev main_call8_c_3 : Ref sig .tc := ⟨.hbm, 211, rfl⟩
abbrev main_call8_v9 : Ref sig .tc := ⟨.hbm, 212, rfl⟩
abbrev main_call8_v10 : Ref sig .tc := ⟨.hbm, 213, rfl⟩
abbrev main_call8_v11 : Ref sig .tc := ⟨.hbm, 214, rfl⟩
abbrev main_call8_v12 : Ref sig .tc := ⟨.hbm, 215, rfl⟩
abbrev main_call8_v13 : Ref sig .tc := ⟨.hbm, 216, rfl⟩
abbrev main_call8_v14 : Ref sig .tc := ⟨.hbm, 217, rfl⟩
abbrev main_v38 : Ref sig .tc := ⟨.hbm, 218, rfl⟩
abbrev main_v39 : Ref sig .tc := ⟨.hbm, 219, rfl⟩
abbrev main_cst_11 : Ref sig .tc := ⟨.hbm, 220, rfl⟩
abbrev main_v40 : Ref sig .tc := ⟨.hbm, 221, rfl⟩
abbrev main_v41 : Ref sig .tc := ⟨.hbm, 222, rfl⟩
abbrev main_v42 : Ref sig .tc := ⟨.hbm, 223, rfl⟩
abbrev main_v43 : Ref sig .tc := ⟨.hbm, 224, rfl⟩
abbrev main_v44 : Ref sig .tc := ⟨.hbm, 225, rfl⟩
abbrev main_v45 : Ref sig .tc := ⟨.hbm, 226, rfl⟩
abbrev main_c_12 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_call9_v5 : Ref sig .tc := ⟨.hbm, 233, rfl⟩
abbrev main_call9_v6 : Ref sig .tc := ⟨.hbm, 234, rfl⟩
abbrev main_call9_v7 : Ref sig .tc := ⟨.hbm, 235, rfl⟩
abbrev main_call9_v8 : Ref sig .tc := ⟨.hbm, 236, rfl⟩
abbrev main_call9_c : Ref sig .tc := ⟨.hbm, 237, rfl⟩
abbrev main_call9_v9 : Ref sig .tc := ⟨.hbm, 238, rfl⟩
abbrev main_call9_v10 : Ref sig .tc := ⟨.hbm, 239, rfl⟩
abbrev main_call9_v11 : Ref sig .tc := ⟨.hbm, 240, rfl⟩
abbrev main_call9_c_0 : Ref sig .tc := ⟨.hbm, 241, rfl⟩
abbrev main_call9_v12 : Ref sig .tc := ⟨.hbm, 242, rfl⟩
abbrev main_call9_v13 : Ref sig .tc := ⟨.hbm, 243, rfl⟩
abbrev main_v46 : Ref sig .tc := ⟨.hbm, 244, rfl⟩
abbrev main_v47 : Ref sig .tc := ⟨.hbm, 245, rfl⟩
abbrev main_v48 : Ref sig .tc := ⟨.hbm, 246, rfl⟩

abbrev nD : Nat := 1
abbrev τ : Topo := Topo.v7x

variable {F : FTy → Type} [FloatOps F]
-- ==== Proof.Digits.lean ====
/-
  Hand-written, untrusted. ONE BYTE, FIVE DIGITS. A byte `b ≤ 242` is read as five base-3 digits. The specification's digit number
  `j` is `b / 3^j mod 3`, less one (`trit j b`). The kernel computes no quotient: it centres the byte (`b - 121`) and peels the
  digits from the highest by rounding a product with a constant near `3^-j` to the nearest integer. This module says that the two
  agree at each of the five digits, over the extended reals.
-/
module

public import proofs.«01_k».proof.Proof.Gen.KernelIdeal.Skeleton
public import Idealize.ShloMosaic.Lib.Pointwise

@[expose] public section

set_option maxRecDepth 16384

noncomputable section

namespace Cert.Proof.Digits

open Idealize.ShloMosaic Idealize.SL.Sem
open Cert.KernelIdeal Cert.KernelIdeal.Gen

/-- Digit number `j` of a byte, as a balanced digit: `b / 3^j mod 3`, less one; one of -1, 0, 1. -/
def trit (j : ℕ) (b : BitVec 8) : EReal := ((((b.toNat / 3 ^ j % 3 : ℕ) : ℝ) - 1 : ℝ) : EReal)

/-- What remains of the centred byte below digit `j`: `b mod 3^j`, less half of `3^j - 1`. -/
def rest (j : ℕ) (b : BitVec 8) : EReal := ((((b.toNat % 3 ^ j : ℕ) : ℝ) - (((3 ^ j - 1) / 2 : ℕ) : ℝ) : ℝ) : EReal)

/-- A number strictly within one half of an integer rounds to it. -/
theorem roundHalfEven_eq {x : ℝ} {z : ℤ} (h1 : (z : ℝ) - 1 / 2 < x) (h2 : x < z + 1 / 2) : Ideal.roundHalfEven x = z := by
  unfold Ideal.roundHalfEven
  rcases le_or_gt (z : ℝ) x with h | h
  · have hf : ⌊x⌋ = z := Int.floor_eq_iff.mpr ⟨h, by linarith⟩
    simp only [hf]
    rw [if_pos (by linarith)]
  · have hf : ⌊x⌋ = z - 1 := Int.floor_eq_iff.mpr ⟨by push_cast; linarith, by push_cast; linarith⟩
    simp only [hf]
    push_cast
    rw [if_neg (by linarith), if_pos (by linarith)]
    ring

/-- The constants of the kernel, each exactly the number its sixteen bits say. -/
theorem c121 : Ideal.ofBits .bf16 0x42F2#16 = ((121 : ℝ) : EReal) := by
  simp [Ideal.ofBits, Ideal.ieee, ← EReal.coe_mul]; norm_num
theorem c81 : Ideal.ofBits .bf16 0x42A2#16 = ((81 : ℝ) : EReal) := by
  simp [Ideal.ofBits, Ideal.ieee, ← EReal.coe_mul]; norm_num
theorem c27 : Ideal.ofBits .bf16 0x41D8#16 = ((27 : ℝ) : EReal) := by
  simp [Ideal.ofBits, Ideal.ieee, ← EReal.coe_mul]; norm_num
theorem c9 : Ideal.ofBits .bf16 0x4110#16 = ((9 : ℝ) : EReal) := by
  simp [Ideal.ofBits, Ideal.ieee, ← EReal.coe_mul]; norm_num
theorem c3 : Ideal.ofBits .bf16 0x4040#16 = ((3 : ℝ) : EReal) := by
  simp [Ideal.ofBits, Ideal.ieee, ← EReal.coe_mul]; norm_num
theorem r81 : Ideal.ofBits .bf16 0x3C4A#16 = ((101 / 8192 : ℝ) : EReal) := by
  simp [Ideal.ofBits, Ideal.ieee, ← EReal.coe_mul]; norm_num
theorem r27 : Ideal.ofBits .bf16 0x3D18#16 = ((19 / 512 : ℝ) : EReal) := by
  simp [Ideal.ofBits, Ideal.ieee, ← EReal.coe_mul]; norm_num
theorem r9 : Ideal.ofBits .bf16 0x3DE4#16 = ((57 / 512 : ℝ) : EReal) := by
  simp [Ideal.ofBits, Ideal.ieee, ← EReal.coe_mul]; norm_num
theorem r3 : Ideal.ofBits .bf16 0x3EAB#16 = ((171 / 512 : ℝ) : EReal) := by
  simp [Ideal.ofBits, Ideal.ieee, ← EReal.coe_mul]; norm_num

/-- One digit by rounding. Write a number as `(q - 1)·p + s`, with `q` one of 0, 1, 2 and `s` within `h` of zero. Its product with a
    constant `c` near `1/p` rounds to `q - 1`, when `c` errs by so little that `|p·c - 1| + h·c` stays below one half. -/
theorem round_digit (p h c s : ℝ) (q : ℕ) (hc : 0 < c) (hq : q < 3) (hs1 : -h ≤ s) (hs2 : s ≤ h) (h1 : 1 - p * c + h * c < 1 / 2)
    (h2 : p * c - 1 + h * c < 1 / 2) : Ideal.roundHalfEven ((((q : ℝ) - 1) * p + s) * c) = (q : ℤ) - 1 := by
  have e1 : s * c ≤ h * c := mul_le_mul_of_nonneg_right hs2 hc.le
  have e2 : -(h * c) ≤ s * c := by
    have := mul_le_mul_of_nonneg_right hs1 hc.le
    linarith
  have e0 : -(h * c) ≤ h * c := e2.trans e1
  refine roundHalfEven_eq ?_ ?_ <;> interval_cases q <;> push_cast <;> ring_nf <;> ring_nf at e1 e2 h1 h2 <;> linarith

/-- The digit above the rest: the part of the byte below digit `j + 1`, times a constant near `3^-j`, rounds to digit `j`. -/
theorem round_rest (j : ℕ) (b : BitVec 8) (c h : ℝ) (hh : (((3 ^ j - 1) / 2 : ℕ) : ℝ) = h) (hc : 0 < c)
    (h3 : (((3 ^ (j + 1) - 1) / 2 : ℕ) : ℝ) = (3 : ℝ) ^ j + h) (hp : (3 : ℝ) ^ j = 2 * h + 1)
    (h1 : 1 - (3 : ℝ) ^ j * c + h * c < 1 / 2) (h2 : (3 : ℝ) ^ j * c - 1 + h * c < 1 / 2) :
    Ideal.liftRound Ideal.roundHalfEven (rest (j + 1) b * ((c : ℝ) : EReal)) = trit j b := by
  have hm : b.toNat % 3 ^ (j + 1) = 3 ^ j * (b.toNat / 3 ^ j % 3) + b.toNat % 3 ^ j := by
    rw [pow_succ, Nat.mod_mul, add_comm]
  have hlt : b.toNat % 3 ^ j < 3 ^ j := Nat.mod_lt _ (by positivity)
  have hlt' : ((b.toNat % 3 ^ j : ℕ) : ℝ) + 1 ≤ (3 : ℝ) ^ j := by exact_mod_cast hlt
  have h0 : (0 : ℝ) ≤ ((b.toNat % 3 ^ j : ℕ) : ℝ) := Nat.cast_nonneg _
  have key := round_digit ((3 : ℝ) ^ j) h c (((b.toNat % 3 ^ j : ℕ) : ℝ) - h) (b.toNat / 3 ^ j % 3) hc (Nat.mod_lt _ (by norm_num))
    (by linarith) (by linarith) h1 h2
  unfold rest trit
  rw [← EReal.coe_mul, Ideal.liftRound_coe, hm, h3]
  rw [show ((((3 ^ j * (b.toNat / 3 ^ j % 3) + b.toNat % 3 ^ j : ℕ) : ℝ) - ((3 : ℝ) ^ j + h)) * c)
    = ((((b.toNat / 3 ^ j % 3 : ℕ) : ℝ) - 1) * (3 : ℝ) ^ j + (((b.toNat % 3 ^ j : ℕ) : ℝ) - h)) * c by push_cast; ring, key]
  push_cast
  rfl

/-- Peeling the digit: the rest below digit `j + 1`, less digit `j` times `3^j`, is the rest below digit `j`. -/
theorem rest_sub (j : ℕ) (b : BitVec 8) (p : ℝ) (hp : (3 : ℝ) ^ j = p)
    (h3 : (((3 ^ (j + 1) - 1) / 2 : ℕ) : ℝ) = p + (((3 ^ j - 1) / 2 : ℕ) : ℝ)) :
    rest (j + 1) b - trit j b * ((p : ℝ) : EReal) = rest j b := by
  have hm : b.toNat % 3 ^ (j + 1) = 3 ^ j * (b.toNat / 3 ^ j % 3) + b.toNat % 3 ^ j := by
    rw [pow_succ, Nat.mod_mul, add_comm]
  unfold rest trit
  rw [← EReal.coe_mul, ← EReal.coe_sub, hm, h3]
  congr 1
  push_cast
  rw [hp]
  ring

/-- The last rest, the byte modulo 3 less one, is digit 0 itself. -/
theorem rest_one (b : BitVec 8) : rest 1 b = trit 0 b := by
  unfold rest trit
  norm_num

/-- The centred byte is the rest below digit 5, because the byte is at most 242. -/
theorem sub_121 (b : BitVec 8) (h : b.toNat ≤ 242) : ((b.toNat : ℝ) : EReal) - ((121 : ℝ) : EReal) = rest 5 b := by
  unfold rest
  rw [← EReal.coe_sub, Nat.mod_eq_of_lt (by omega : b.toNat < 3 ^ 5)]
  norm_num

variable (w : Vec Ideal S1024x1024 .i8) (i : S1024x1024.Idx)

/-- What the kernel's named intermediate blocks hold at an index whose byte is at most 242: the rests and the digits, from the top. -/
theorem pay4 (h : (w i).toNat ≤ 242) : k0_pay4 w i = rest 5 (w i) := by
  unfold k0_pay4; pointwise; rw [c121]; exact sub_121 _ h
theorem pay5 (h : (w i).toNat ≤ 242) : k0_pay5 w i = trit 4 (w i) := by
  unfold k0_pay5; pointwise; rw [pay4 w i h, r81]
  exact round_rest 4 _ _ 40 (by norm_num) (by norm_num) (by norm_num) (by norm_num) (by norm_num) (by norm_num)
theorem pay6 (h : (w i).toNat ≤ 242) : k0_pay6 w i = rest 4 (w i) := by
  unfold k0_pay6; pointwise; rw [pay4 w i h, pay5 w i h, c81]
  exact rest_sub 4 _ _ (by norm_num) (by norm_num)
theorem pay8 (h : (w i).toNat ≤ 242) : k0_pay8 w i = trit 3 (w i) := by
  unfold k0_pay8; pointwise; rw [pay6 w i h, r27]
  exact round_rest 3 _ _ 13 (by norm_num) (by norm_num) (by norm_num) (by norm_num) (by norm_num) (by norm_num)
theorem pay9 (h : (w i).toNat ≤ 242) : k0_pay9 w i = rest 3 (w i) := by
  unfold k0_pay9; pointwise; rw [pay6 w i h, pay8 w i h, c27]
  exact rest_sub 3 _ _ (by norm_num) (by norm_num)
theorem pay12 (h : (w i).toNat ≤ 242) : k0_pay12 (k0_pay9 w) i = trit 2 (w i) := by
  unfold k0_pay12; pointwise; rw [pay9 w i h, r9]
  exact round_rest 2 _ _ 4 (by norm_num) (by norm_num) (by norm_num) (by norm_num) (by norm_num) (by norm_num)
theorem pay13 (h : (w i).toNat ≤ 242) : k0_pay13 (k0_pay9 w) i = rest 2 (w i) := by
  unfold k0_pay13; pointwise; rw [pay9 w i h, pay12 w i h, c9]
  exact rest_sub 2 _ _ (by norm_num) (by norm_num)
theorem pay15 (h : (w i).toNat ≤ 242) : k0_pay15 (k0_pay9 w) i = trit 1 (w i) := by
  unfold k0_pay15; pointwise; rw [pay13 w i h, r3]
  exact round_rest 1 _ _ 1 (by norm_num) (by norm_num) (by norm_num) (by norm_num) (by norm_num) (by norm_num)

end Cert.Proof.Digits

end
-- ==== Proof.Step.lean ====
/-
  Hand-written, untrusted. WHAT ONE GRID POINT COMPUTES, over the extended reals, when every byte of its block is at most 242. The
  body keeps a running total of 256 rows by 5120 columns in its scratch. Column `q` belongs to digit `q / 1024` and to the byte
  column `q mod 1024`; the body adds to it the product of its block of `x` with that digit of its block of bytes. The first point
  starts from zero; the last one also stores the total times the scale.
-/
module

public import proofs.«01_k».proof.Proof.Gen.KernelIdeal.Frame
public import proofs.«01_k».proof.Proof.Digits
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Step

open Idealize.ShloMosaic Idealize.SL.Sem Idealize.ShloMosaic.TcCoe
open Cert.KernelIdeal Cert.KernelIdeal.Gen Cert.Proof.Digits

/-- What a block of `x` and a block of bytes add to row `r`, byte column `p`, of digit `j`. -/
def term (j : ℕ) (x1 : Vec Ideal S256x1024 .bf16) (x2 : Vec Ideal S1024x1024 .i8) (r : Fin 256) (p : Fin 1024) : EReal :=
  ∑ k : Fin 1024, x1 (ix2 r k) * trit j (x2 (ix2 k p))

/-- The same at a place of the 5120-column total: digit `column / 1024`, byte column `column mod 1024`. -/
def add (x1 : Vec Ideal S256x1024 .bf16) (x2 : Vec Ideal S1024x1024 .i8) (y : S256x5120.Idx) : EReal :=
  term ((y 1).val / 1024) x1 x2 (y 0) ⟨(y 1).val % 1024, Nat.mod_lt _ (by norm_num)⟩

/-- `add` at a place of the column block of digit `j`. -/
theorem add_of (x1 : Vec Ideal S256x1024 .bf16) (x2 : Vec Ideal S1024x1024 .i8) (y : S256x5120.Idx) (x : S256x1024.Idx) (j : ℕ)
    (h0 : (y 0).val = (x 0).val) (h1 : (y 1).val = 1024 * j + (x 1).val) (hx : (x 1).val < 1024) :
    add x1 x2 y = term j x1 x2 (x 0) (x 1) := by
  unfold add
  have e0 : y 0 = x 0 := Fin.ext h0
  have e1 : (⟨(y 1).val % 1024, Nat.mod_lt _ (by norm_num)⟩ : Fin 1024) = x 1 := Fin.ext (by show (y 1).val % 1024 = (x 1).val; omega)
  rw [e0, e1, show (y 1).val / 1024 = j by omega]

variable (x1 : Vec Ideal S256x1024 .bf16) (x2 : Vec Ideal S1024x1024 .i8) (v : Vec Ideal S256x1024 .f32) (x : S256x1024.Idx)

/-- The five stored payloads: each is the column block loaded before, plus the digit's product. -/
theorem store4 (h : ∀ i, (x2 i).toNat ≤ 242) : k0_pay7 x2 v x1 x = v x + term 4 x1 x2 (x 0) (x 1) := by
  unfold k0_pay7; pointwise
  unfold term; congr 1
  exact Finset.sum_congr rfl fun k _ => by rw [pay5 _ _ (h _)]
theorem store3 (h : ∀ i, (x2 i).toNat ≤ 242) : k0_pay11 (k0_pay10 x2 v x1) x = v x + term 3 x1 x2 (x 0) (x 1) := by
  unfold k0_pay11 k0_pay10; pointwise
  unfold term; congr 1
  exact Finset.sum_congr rfl fun k _ => by rw [pay8 _ _ (h _)]
theorem store2 (h : ∀ i, (x2 i).toNat ≤ 242) : k0_pay14 (k0_pay9 x2) v x1 x = v x + term 2 x1 x2 (x 0) (x 1) := by
  unfold k0_pay14; pointwise
  unfold term; congr 1
  exact Finset.sum_congr rfl fun k _ => by rw [pay12 _ _ (h _)]
theorem store1 (h : ∀ i, (x2 i).toNat ≤ 242) : k0_pay16 (k0_pay9 x2) v x1 x = v x + term 1 x1 x2 (x 0) (x 1) := by
  unfold k0_pay16; pointwise
  unfold term; congr 1
  exact Finset.sum_congr rfl fun k _ => by rw [pay15 _ _ (h _)]
theorem store0 (h : ∀ i, (x2 i).toNat ≤ 242) : k0_pay1 (k0_pay17 (k0_pay9 x2) v x1) x = v x + term 0 x1 x2 (x 0) (x 1) := by
  unfold k0_pay1 k0_pay17; pointwise
  unfold term; congr 1
  refine Finset.sum_congr rfl fun k _ => ?_
  rw [pay13 _ _ (h _), pay15 _ _ (h _), c3, rest_sub 1 _ _ (by norm_num) (by norm_num), rest_one]

/-- The five column blocks the body stores, last first, from the total `z` it loads them from. -/
def blocks (z : Vec Ideal S256x5120 .f32) : List (View.Piece (Elt Ideal) S256x5120 .f32) :=
  [⟨Rect.unit ![0, 0] ![256, 1024] inb_S256x5120_S256x1024_0_0,
      k0_pay1 (k0_pay17 (k0_pay9 x2) (View.ld z (Rect.unit ![0, 0] ![256, 1024] inb_S256x5120_S256x1024_0_0)) x1)⟩,
    ⟨Rect.unit ![0, 1024] ![256, 1024] inb_S256x5120_S256x1024_0_1024,
      k0_pay16 (k0_pay9 x2) (View.ld z (Rect.unit ![0, 1024] ![256, 1024] inb_S256x5120_S256x1024_0_1024)) x1⟩,
    ⟨Rect.unit ![0, 2048] ![256, 1024] inb_S256x5120_S256x1024_0_2048,
      k0_pay14 (k0_pay9 x2) (View.ld z (Rect.unit ![0, 2048] ![256, 1024] inb_S256x5120_S256x1024_0_2048)) x1⟩,
    ⟨Rect.unit ![0, 3072] ![256, 1024] inb_S256x5120_S256x1024_0_3072,
      k0_pay11 (k0_pay10 x2 (View.ld z (Rect.unit ![0, 3072] ![256, 1024] inb_S256x5120_S256x1024_0_3072)) x1)⟩,
    ⟨Rect.unit ![0, 4096] ![256, 1024] inb_S256x5120_S256x1024_0_4096,
      k0_pay7 x2 (View.ld z (Rect.unit ![0, 4096] ![256, 1024] inb_S256x5120_S256x1024_0_4096)) x1⟩]

/-- Each of them is a block of ONE array: the total `z` plus the point's products. -/
theorem blocks_of (z : Vec Ideal S256x5120 .f32) (h : ∀ i, (x2 i).toNat ≤ 242) :
    View.PiecesOf (fun y => z y + add x1 x2 y) (blocks x1 x2 z) := by
  refine ⟨fun x => ?_, fun x => ?_, fun x => ?_, fun x => ?_, fun x => ?_, trivial⟩
  · exact (store0 x1 x2 _ x h).trans (congrArg _ (add_of x1 x2 _ x 0
      (show 0 + 1 * (x 0).val = (x 0).val by omega) (show 0 + 1 * (x 1).val = 1024 * 0 + (x 1).val by omega) (x 1).isLt).symm)
  · exact (store1 x1 x2 _ x h).trans (congrArg _ (add_of x1 x2 _ x 1
      (show 0 + 1 * (x 0).val = (x 0).val by omega) (show 1024 + 1 * (x 1).val = 1024 * 1 + (x 1).val by omega) (x 1).isLt).symm)
  · exact (store2 x1 x2 _ x h).trans (congrArg _ (add_of x1 x2 _ x 2
      (show 0 + 1 * (x 0).val = (x 0).val by omega) (show 2048 + 1 * (x 1).val = 1024 * 2 + (x 1).val by omega) (x 1).isLt).symm)
  · exact (store3 x1 x2 _ x h).trans (congrArg _ (add_of x1 x2 _ x 3
      (show 0 + 1 * (x 0).val = (x 0).val by omega) (show 3072 + 1 * (x 1).val = 1024 * 3 + (x 1).val by omega) (x 1).isLt).symm)
  · exact (store4 x1 x2 _ x h).trans (congrArg _ (add_of x1 x2 _ x 4
      (show 0 + 1 * (x 0).val = (x 0).val by omega) (show 4096 + 1 * (x 1).val = 1024 * 4 + (x 1).val by omega) (x 1).isLt).symm)

/-- Stored over anything, they leave that array everywhere: they tile the scratch. -/
theorem canon_blocks (z : Vec Ideal S256x5120 .f32) (h : ∀ i, (x2 i).toNat ≤ 242)
    (L : List (View.Piece (Elt Ideal) S256x5120 .f32)) (y : S256x5120.Idx) :
    View.canon (blocks x1 x2 z ++ L) y = z y + add x1 x2 y :=
  View.canon_append_of_piecesOf (fun y => z y + add x1 x2 y) L _ (blocks_of x1 x2 z h) y
    (View.cover_of_tiledL (blocks x1 x2 z) ![256, 1024] (by rfl) y)

section Cases
variable (c : Dev nD) (i : grid0.Coords) (arg1 : Memref sig .tc .smem S1 .f32) (harg1 : arg1.IsWhole) (arg2 : Memref sig .tc .vmem S256x1024 .bf16) (harg2 : arg2.IsWhole) (arg3 : Memref sig .tc .vmem S1024x1024 .i8) (harg3 : arg3.IsWhole) (arg4 : Memref sig .tc .vmem S256x5120 .bf16) (harg4 : arg4.IsWhole) (arg5 : Memref sig .tc .vmem S256x5120 .f32) (harg5 : arg5.IsWhole)
    (x0 : Vec Ideal S1 .f32) (xs0 : Vec Ideal S256x5120 .f32) (y : S256x5120.Idx) (h : ∀ i, (x2 i).toNat ≤ 242)
include h

/-- A middle point: the total before, plus the point's products. -/
theorem sout_B (hc0 : ¬cond0_0 i) (hc1 : ¬cond0_1 i) :
    sout0_B_0 c i arg1 harg1 arg2 harg2 arg3 harg3 arg4 harg4 arg5 harg5 hc0 hc1 x0 x1 x2 xs0 y = xs0 y + add x1 x2 y := by
  frame_open
  simp (disch := decide) only [↓ View.readCov_skip, ↓ View.readCov_cons_toLoadRect, ↓ View.readCov_fill]
  frame_out
  exact canon_blocks x1 x2 xs0 h [] y

/-- The last point leaves the same in the scratch. -/
theorem sout_C (hc0 : ¬cond0_0 i) (hc1 : cond0_1 i) :
    sout0_C_0 c i arg1 harg1 arg2 harg2 arg3 harg3 arg4 harg4 arg5 harg5 hc0 hc1 x0 x1 x2 xs0 y = xs0 y + add x1 x2 y := by
  frame_open
  simp (disch := decide) only [↓ View.readCov_skip, ↓ View.readCov_cons_toLoadRect, ↓ View.readCov_fill]
  frame_out
  exact canon_blocks x1 x2 xs0 h [] y

/-- The first point starts from zero. -/
theorem sout_A (hc0 : cond0_0 i) (hc1 : ¬cond0_1 i) :
    sout0_A_0 c i arg1 harg1 arg2 harg2 arg3 harg3 arg4 harg4 arg5 harg5 hc0 hc1 x0 x1 x2 y = add x1 x2 y := by
  frame_open
  simp (disch := decide) only [↓ View.readCov_skip, ↓ View.readCov_cons_toLoadRect, ↓ View.readCov_fill]
  frame_out
  refine (canon_blocks x1 x2 (k0_pay3 (F := Ideal)) h [_] y).trans ?_
  rw [show k0_pay3 (F := Ideal) y = 0 by unfold k0_pay3; pointwise, zero_add]

/-- The last point also stores, in the output's block, the total times the scale. -/
theorem out_C (hc0 : ¬cond0_0 i) (hc1 : cond0_1 i) :
    out0_C_3 c i arg1 harg1 arg2 harg2 arg3 harg3 arg4 harg4 arg5 harg5 hc0 hc1 x0 x1 x2 xs0 y = (xs0 y + add x1 x2 y) * x0 (ix1 (0 : Fin 1)) := by
  frame_open
  simp (disch := decide) only [↓ View.readCov_skip, ↓ View.readCov_cons_toLoadRect, ↓ View.readCov_fill]
  frame_out
  rw [View.readCov_eq_canon']
  unfold k0_pay2
  pointwise
  have e := canon_blocks x1 x2 xs0 h [] y
  rw [List.append_nil] at e
  unfold blocks at e
  rw [e]

end Cases

end Cert.Proof.Step

end
-- ==== Proof.Spec.lean ====
/-
  Hand-written, untrusted. THE MATHEMATICS both programs compute, over the extended reals: 256 rows of `x` times five ternary
  matrices packed in one array of bytes, the products side by side, all times one scale.
-/
module

public import proofs.«01_k».proof.Proof.Digits

@[expose] public section

noncomputable section

namespace Cert.Proof.Spec

open Idealize.ShloMosaic Idealize.SL.Sem
open Cert.KernelIdeal Cert.Proof.Digits

/-- Row `r` of `x` times byte column `p`, at digit `j`: the sum over all 14336 bytes of the column of `x` times the byte's digit. -/
def dot (x : Vec Ideal S256x14336 .bf16) (w : Vec Ideal S14336x1024 .i8) (j : ℕ) (r : Fin 256) (p : Fin 1024) : EReal :=
  ∑ k : Fin 14336, x (ix2 r k) * trit j (w (ix2 k p))

/-- The result as 256 rows of 5120 columns: column `q` is digit `q / 1024` of byte column `q mod 1024`. -/
def out (x : Vec Ideal S256x14336 .bf16) (w : Vec Ideal S14336x1024 .i8) (s : EReal) : Vec Ideal S256x5120 .bf16 := fun y =>
  dot x w ((y 1).val / 1024) (y 0) ⟨(y 1).val % 1024, Nat.mod_lt _ (by norm_num)⟩ * s

end Cert.Proof.Spec

end
-- ==== Proof.Array.lean ====
/-
  Hand-written, untrusted. WHAT THE KERNEL'S ARRAY HOLDS after the fourteen grid points, over the extended reals, when every byte is
  at most 242: the specification's 256 by 5120 result, of the reshaped `x`, the bytes and the scale. Point `t` adds the products over
  bytes `1024·t` to `1024·t + 1023` of every column; the fourteen stretches are the whole sum over 14336.
-/
module

public import proofs.«01_k».proof.Proof.Step
public import proofs.«01_k».proof.Proof.Spec
public import Idealize.ShloMosaic.Lib.Claim

@[expose] public section

set_option maxRecDepth 16384

noncomputable section

namespace Cert.Proof.Array

open Idealize.ShloMosaic Idealize.SL.Sem Idealize.ShloMosaic.TcCoe
open Cert.KernelIdeal Cert.KernelIdeal.Gen Cert.Proof.Digits Cert.Proof.Step
open Idealize.ShloMosaic.Pipeline (Dat)

variable (m : (ℓ : Loc nD τ sig) → Buf (Elt Ideal) ℓ) (c : Dev nD)

/-- The arguments as arrays of this program: `x` as 256 rows, the bytes, the scale. -/
abbrev xArr : Vec Ideal S256x14336 .bf16 :=
  shapeCast S256x14336 (m ((c : Thread nD τ).loc main_arg0)) shapeCasts_S2x128x14336_S256x14336
abbrev wArr : Vec Ideal S14336x1024 .i8 := m ((c : Thread nD τ).loc main_arg1)
abbrev sArr : Vec Ideal S_ .f32 := m ((c : Thread nD τ).loc main_arg2)

/-- Where the windows' blocks lie: the scale's whole; columns `1024·t` on of `x`; rows `1024·t` on of the bytes. -/
theorem idx0 : ∀ t : Fin cfg0.N, win0_0.index t = ![0] ∧ win0_1.index t = ![0, t.val] ∧ win0_2.index t = ![t.val, 0]
    ∧ win0_3.index t = ![0, 0] := by decide +kernel

/-- The blocks the body sees, in terms of the arguments. -/
theorem iblk_x (t : Fin cfg0.N) (r : Fin 256) (k : Fin 1024) (h : t.val * 1024 + k.val < 14336) :
    iblk m c 1 t (ix2 r k) = xArr m c (ix2 r ⟨t.val * 1024 + k.val, h⟩) := by
  obtain ⟨e0, e1, e2, e3⟩ := idx0 t
  blk_ext [iblk, V, e1]
theorem iblk_w (t : Fin cfg0.N) (k : Fin 1024) (p : Fin 1024) (h : t.val * 1024 + k.val < 14336) :
    iblk m c 2 t (ix2 k p) = wArr m c (ix2 ⟨t.val * 1024 + k.val, h⟩ p) := by
  obtain ⟨e0, e1, e2, e3⟩ := idx0 t
  blk_ext [iblk, V, e2]
theorem iblk_s (t : Fin cfg0.N) : iblk m c 0 t (ix1 (0 : Fin 1)) = sArr m c ix0 := by
  have e : V m c main_v0 = shapeCast S1 (sArr m c) shapeCasts_S_S1 := by
    show StableHlo.after hostOps0 _ _ = _
    unfold hostOps0
    after_results
    rfl
  show V m c main_v0 _ = _
  rw [e]
  exact congrArg (sArr m c) (funext fun a => a.elim0)

variable (hw : ∀ i, (wArr m c i).toNat ≤ 242)
include hw

/-- Every byte of a block is at most 242. -/
theorem iblk_le (t : Fin cfg0.N) (i : S1024x1024.Idx) : (iblk m c 2 t i : BitVec 8).toNat ≤ 242 := by
  idx_vars i
  have hN : cfg0.N = 14 := N_0
  have := t.isLt
  rw [iblk_w m c t _ _ (by omega)]
  exact hw _

/-- The scratch after the first point: what that point adds, to nothing. -/
theorem scratch_first (t : Fin cfg0.N) (h : t.val % 14 = 0) (y : S256x5120.Idx) :
    (outsAt0 m c t.val t.isLt).2 y = 0 + add (iblk m c 1 t) (iblk m c 2 t) y := by
  have h1 : ¬t.val % 14 = 13 := by omega
  have e := congrArg Prod.snd (outsAt0_A m c t h h1)
  dsimp only at e
  rw [e, zero_add]
  exact sout_A (iblk m c 1 t) (iblk m c 2 t) c (grid0.coords t) (ms0_0 t) (hs0_0 t) (ms0_1 t) (hs0_1 t) (ms0_2 t) (hs0_2 t) (ms0_3 t) (hs0_3 t)
      scM0_0 (Memref.isWhole_whole _) (iblk m c 0 t) y (iblk_le m c hw t)
      ((hcond0_0 t).mpr h) (fun h => h1 ((hcond0_1 t).mp h))

/-- The scratch after a later point: what that point adds, to the point before's. -/
theorem scratch_next (t : Fin cfg0.N) (h : ¬t.val % 14 = 0) (y : S256x5120.Idx) :
    (outsAt0 m c t.val t.isLt).2 y
      = (outsAt0 m c (t.val - 1) (Nat.lt_of_le_of_lt (Nat.sub_le _ _) t.isLt)).2 y + add (iblk m c 1 t) (iblk m c 2 t) y := by
  by_cases h1 : t.val % 14 = 13
  · have e := congrArg Prod.snd (outsAt0_C m c t h h1)
    dsimp only at e
    rw [e]
    exact sout_C (iblk m c 1 t) (iblk m c 2 t) c (grid0.coords t) (ms0_0 t) (hs0_0 t) (ms0_1 t) (hs0_1 t) (ms0_2 t) (hs0_2 t) (ms0_3 t) (hs0_3 t)
      scM0_0 (Memref.isWhole_whole _) (iblk m c 0 t) (outsAt0 m c (t.val - 1) (Nat.lt_of_le_of_lt (Nat.sub_le _ _) t.isLt)).2 y (iblk_le m c hw t)
      (fun h' => h ((hcond0_0 t).mp h')) ((hcond0_1 t).mpr h1)
  · have e := congrArg Prod.snd (outsAt0_B m c t h h1)
    dsimp only at e
    rw [e]
    exact sout_B (iblk m c 1 t) (iblk m c 2 t) c (grid0.coords t) (ms0_0 t) (hs0_0 t) (ms0_1 t) (hs0_1 t) (ms0_2 t) (hs0_2 t) (ms0_3 t) (hs0_3 t)
      scM0_0 (Memref.isWhole_whole _) (iblk m c 0 t) (outsAt0 m c (t.val - 1) (Nat.lt_of_le_of_lt (Nat.sub_le _ _) t.isLt)).2 y (iblk_le m c hw t)
      (fun h' => h ((hcond0_0 t).mp h')) (fun h => h1 ((hcond0_1 t).mp h))

/-- The scratch after the last point: the sum over the fourteen points of what each adds. -/
theorem scratch_last (y : S256x5120.Idx) :
    (outsAt0 m c t0_13.val t0_13.isLt).2 y = 0 + ∑ t : Fin cfg0.N, add (iblk m c 1 t) (iblk m c 2 t) y :=
  Pipeline.eq_sum_fin_of_reset_step_apply_last (fun n h => (outsAt0 m c n h).2) 14 (fun _ => (0 : EReal))
    (fun t y => add (iblk m c 1 t) (iblk m c 2 t) y) (fun t h y => scratch_first m c hw t h y)
    (fun t h y => scratch_next m c hw t h y) (by decide) t0_13 rfl y

/-- That sum is the specification's, stretch by stretch. -/
theorem sum_points (y : S256x5120.Idx) :
    ∑ t : Fin cfg0.N, add (iblk m c 1 t) (iblk m c 2 t) y
      = Spec.dot (xArr m c) (wArr m c) ((y 1).val / 1024) (y 0) ⟨(y 1).val % 1024, Nat.mod_lt _ (by norm_num)⟩ := by
  unfold add term Spec.dot
  refine Fin.sum_mul_add_congr (fun t k hl => ?_)
  exact congrArg₂ (· * trit ((y 1).val / 1024) ·) (iblk_x m c t (y 0) k hl) (iblk_w m c t k _ hl)

/-- The last point stores, in the output's block, its scratch times the scale. -/
theorem out_scratch (t : Fin cfg0.N) (h : ¬t.val % 14 = 0) (h1 : t.val % 14 = 13) (y : S256x5120.Idx) :
    (outsAt0 m c t.val t.isLt).1 y = (outsAt0 m c t.val t.isLt).2 y * sArr m c ix0 := by
  have e := congrArg Prod.fst (outsAt0_C m c t h h1)
  dsimp only at e
  rw [e, scratch_next m c hw t h y, ← iblk_s m c t]
  exact out_C (iblk m c 1 t) (iblk m c 2 t) c (grid0.coords t) (ms0_0 t) (hs0_0 t) (ms0_1 t) (hs0_1 t) (ms0_2 t) (hs0_2 t) (ms0_3 t) (hs0_3 t)
      scM0_0 (Memref.isWhole_whole _) (iblk m c 0 t) (outsAt0 m c (t.val - 1) (Nat.lt_of_le_of_lt (Nat.sub_le _ _) t.isLt)).2 y (iblk_le m c hw t)
      (fun h' => h ((hcond0_0 t).mp h')) ((hcond0_1 t).mpr h1)

/-- Which is the specification's result. -/
theorem out_last (y : S256x5120.Idx) :
    (outsAt0 m c t0_13.val t0_13.isLt).1 y = Spec.out (xArr m c) (wArr m c) (sArr m c ix0) y := by
  rw [out_scratch m c hw t0_13 (by decide) (by decide), scratch_last m c hw y, sum_points m c hw y, zero_add]
  rfl

/-- The kernel's result array after the run. -/
theorem final : (dats m 0 c).arrAt 3 cfg0.N = Spec.out (xArr m c) (wArr m c) (sArr m c ix0) := by
  refine (dats m 0 c).arrAt_eq_of_after_last 3 t0_13 (by decide +kernel) _ fun j => ?_
  rw [after0_3]
  refine (out_last m c hw _).trans ?_
  congr 1

end Cert.Proof.Array

end
-- ==== Proof.RefDigits.lean ====
/-
  Hand-written, untrusted. THE REFERENCE'S DIGITS. The reference divides a 32-bit word by three with the quotient rounded down and
  takes the remainder with the divisor's sign; the language states each as a truncating division with a correction. On the words
  a byte can give, both are the quotient and the remainder of natural numbers. Five rounds of them give the byte's five digits,
  of every byte.
-/
module

public import proofs.«01_k».proof.Proof.Digits
public import proofs.«01_k».proof.Proof.Gen.ReferenceIdeal.Run
public import Idealize.ShloMosaic.Lib.Pointwise

@[expose] public section

set_option maxRecDepth 16384

noncomputable section

namespace Cert.Proof.RefDigits

open Idealize.ShloMosaic Idealize.SL.Sem
open Cert.ReferenceIdeal Cert.ReferenceIdeal.Gen Cert.ReferenceIdeal.Value Cert.Proof.Digits

/-- The sign of a word. -/
def sgn (q : BitVec 32) : BitVec 32 := if q = 0 then 0 else if q.msb then -1 else 1

/-- A word divided by three, rounded down. -/
def quo (q : BitVec 32) : BitVec 32 :=
  Scalar.select (IntOp.andi (IntOp.cmpi .ne (sgn q) (sgn 3#32)) (IntOp.cmpi .ne (IntOp.remsi .host q 3#32) 0#32))
    (IntOp.subi (IntOp.divsi .host q 3#32) 1#32) (IntOp.divsi .host q 3#32)

/-- The divisor three, after the test that it is not zero. -/
def three : BitVec 32 := Scalar.select (IntOp.cmpi .eq 3#32 0#32) 1#32 3#32

/-- The remainder of a word by three, with the divisor's sign. -/
def rem (q : BitVec 32) : BitVec 32 :=
  Scalar.select (IntOp.andi (IntOp.cmpi .ne (IntOp.cmpi .slt (IntOp.remsi .host q three) 0#32) (IntOp.cmpi .slt three 0#32))
      (IntOp.cmpi .ne (IntOp.remsi .host q three) 0#32))
    (IntOp.addi (IntOp.remsi .host q three) three) (IntOp.remsi .host q three)

/-- On the words below 256 they are the natural numbers' quotient and remainder. -/
theorem quo_fin : ∀ n : Fin 256, quo (BitVec.ofNat 32 n.val) = BitVec.ofNat 32 (n.val / 3) := by decide +kernel
theorem rem_fin : ∀ n : Fin 256, rem (BitVec.ofNat 32 n.val) = BitVec.ofNat 32 (n.val % 3) := by decide +kernel
theorem quo_eq (n : ℕ) (h : n < 256) : quo (BitVec.ofNat 32 n) = BitVec.ofNat 32 (n / 3) := quo_fin ⟨n, h⟩
theorem rem_eq (n : ℕ) (h : n < 256) : rem (BitVec.ofNat 32 n) = BitVec.ofNat 32 (n % 3) := rem_fin ⟨n, h⟩

variable (V0 : Valuation τ sig (Elt Ideal))

/-- The reference's bytes. -/
abbrev bytes : Vec Ideal S14336x1024 .i8 := V0 (Proc.devRef .tc main_arg1)

/-- What the reference divides before each digit: the byte, and the quotient of the word before. -/
theorem v1_at (i : S14336x1024.Idx) : (res_main_v1 V0 : IVec S14336x1024 32) i = BitVec.ofNat 32 (bytes V0 i).toNat := by
  show (bytes V0 i).setWidth 32 = _
  exact BitVec.eq_of_toNat_eq (by simp)
theorem v10_quo (i : S14336x1024.Idx) : (res_main_v10 V0 : IVec S14336x1024 32) i = quo ((res_main_v1 V0 : IVec S14336x1024 32) i) := rfl
theorem v19_quo (i : S14336x1024.Idx) : (res_main_v19 V0 : IVec S14336x1024 32) i = quo ((res_main_v10 V0 : IVec S14336x1024 32) i) := rfl
theorem v28_quo (i : S14336x1024.Idx) : (res_main_v28 V0 : IVec S14336x1024 32) i = quo ((res_main_v19 V0 : IVec S14336x1024 32) i) := rfl
theorem v37_quo (i : S14336x1024.Idx) : (res_main_v37 V0 : IVec S14336x1024 32) i = quo ((res_main_v28 V0 : IVec S14336x1024 32) i) := rfl

theorem v10_at (i : S14336x1024.Idx) : (res_main_v10 V0 : IVec S14336x1024 32) i = BitVec.ofNat 32 ((bytes V0 i).toNat / 3) := by
  have := (bytes V0 i).isLt
  rw [v10_quo, v1_at, quo_eq _ (by omega)]
theorem v19_at (i : S14336x1024.Idx) : (res_main_v19 V0 : IVec S14336x1024 32) i = BitVec.ofNat 32 ((bytes V0 i).toNat / 3 / 3) := by
  have := (bytes V0 i).isLt
  rw [v19_quo, v10_at, quo_eq _ (by omega)]
theorem v28_at (i : S14336x1024.Idx) : (res_main_v28 V0 : IVec S14336x1024 32) i = BitVec.ofNat 32 ((bytes V0 i).toNat / 3 / 3 / 3) := by
  have := (bytes V0 i).isLt
  rw [v28_quo, v19_at, quo_eq _ (by omega)]
theorem v37_at (i : S14336x1024.Idx) : (res_main_v37 V0 : IVec S14336x1024 32) i = BitVec.ofNat 32 ((bytes V0 i).toNat / 3 / 3 / 3 / 3) := by
  have := (bytes V0 i).isLt
  rw [v37_quo, v28_at, quo_eq _ (by omega)]

/-- The digits of an array of words: the remainders by three, less one. -/
def digitV (q : IVec S14336x1024 32) : FVec Ideal S14336x1024 .bf16 :=
  subf (sitofp .bf16 fun i => rem (q i)) (broadcastInDim S14336x1024 ![] bcast_S_S14336x1024 (constant S_ .bf16 0x3F80#16))

/-- One, as the sixteen bits of the reference say it. -/
theorem c1 : Ideal.ofBits .bf16 0x3F80#16 = ((1 : ℝ) : EReal) := by
  simp [Ideal.ofBits, Ideal.ieee, ← EReal.coe_mul]; norm_num

/-- At a word that holds a byte's `j`-th quotient, the digit is the specification's. -/
theorem digitV_at (q : IVec S14336x1024 32) (i : S14336x1024.Idx) (j : ℕ) (b : BitVec 8) (h : q i = BitVec.ofNat 32 (b.toNat / 3 ^ j)) :
    digitV q i = trit j b := by
  have hb := b.isLt
  have hd : b.toNat / 3 ^ j < 256 := lt_of_le_of_lt (Nat.div_le_self _ _) (by omega)
  have hr : (rem (q i)).toInt = ((b.toNat / 3 ^ j % 3 : ℕ) : ℤ) := by
    rw [h, rem_eq _ hd]
    have : b.toNat / 3 ^ j % 3 < 3 := Nat.mod_lt _ (by norm_num)
    generalize b.toNat / 3 ^ j % 3 = n at this
    interval_cases n <;> rfl
  show (((rem (q i)).toInt : ℝ) : EReal) - Ideal.ofBits .bf16 0x3F80#16 = trit j b
  rw [hr, c1, ← EReal.coe_sub]
  unfold trit
  push_cast
  rfl

end Cert.Proof.RefDigits

end
-- ==== Proof.RefValue.lean ====
/-
  Hand-written, untrusted. WHAT THE REFERENCE COMPUTES, over the extended reals and for every byte: five blocks of 1024 columns, one
  per digit, each the product of `x` and the digit's array times the scale, side by side. That is the specification's result.
-/
module

public import proofs.«01_k».proof.Proof.RefDigits
public import proofs.«01_k».proof.Proof.Spec
public import Idealize.ShloMosaic.Lib.Pipeline.Value

@[expose] public section

set_option maxRecDepth 16384

noncomputable section

namespace Cert.Proof.RefValue

open Idealize.ShloMosaic Idealize.SL.Sem
open Cert.ReferenceIdeal Cert.ReferenceIdeal.Gen Cert.ReferenceIdeal.Value Cert.Proof.Digits Cert.Proof.RefDigits

/-- One block of the result: `x` times an array of digits, times the scale. -/
def piece (x : FVec Ideal S256x14336 .bf16) (t : FVec Ideal S14336x1024 .bf16) (s : FVec Ideal S_ .f32) : FVec Ideal S256x1024 .bf16 :=
  truncf .bf16 (mulf (Host.dotGeneral dot_S256x14336_S14336x1024_S256x1024_1_0_0_1_n_n none x t)
    (broadcastInDim S256x1024 ![] bcast_S_S256x1024 s)) bitsLt_bf16_f32

theorem piece_at (x : FVec Ideal S256x14336 .bf16) (t : FVec Ideal S14336x1024 .bf16) (s : FVec Ideal S_ .f32) (r : Fin 256) (p : Fin 1024) :
    piece x t s (ix2 r p) = (∑ k : Fin 14336, x (ix2 r k) * t (ix2 k p)) * s ix0 := by
  unfold piece
  pointwise

/-- A block at a digit's array is the specification's digit product times the scale. -/
theorem piece_dot (x : FVec Ideal S256x14336 .bf16) (w : Vec Ideal S14336x1024 .i8) (s : FVec Ideal S_ .f32) (q : IVec S14336x1024 32) (j : ℕ)
    (h : ∀ i, q i = BitVec.ofNat 32 ((w i).toNat / 3 ^ j)) (r : Fin 256) (p : Fin 1024) :
    piece x (digitV q) s (ix2 r p) = Spec.dot x w j r p * s ix0 := by
  rw [piece_at]
  unfold Spec.dot
  congr 1
  exact Finset.sum_congr rfl fun k _ => by rw [digitV_at q (ix2 k p) j (w (ix2 k p)) (h _)]

variable (V0 : Valuation τ sig (Elt Ideal))

/-- The words whose remainder is digit `j`. -/
def word : Fin 5 → IVec S14336x1024 32 :=
  ![res_main_v1 V0, res_main_v10 V0, res_main_v19 V0, res_main_v28 V0, res_main_v37 V0]

theorem word_at (j : Fin 5) (i : S14336x1024.Idx) : word V0 j i = BitVec.ofNat 32 ((bytes V0 i).toNat / 3 ^ j.val) := by
  fin_cases j
  · exact (v1_at V0 i).trans (by simp)
  · exact (v10_at V0 i).trans (by simp)
  · exact (v19_at V0 i).trans (by simp [Nat.div_div_eq_div_mul])
  · exact (v28_at V0 i).trans (by simp [Nat.div_div_eq_div_mul])
  · exact (v37_at V0 i).trans (by simp [Nat.div_div_eq_div_mul])

/-- The reference's arguments. -/
abbrev xRef : FVec Ideal S256x14336 .bf16 := shapeCast S256x14336 (V0 (Proc.devRef .tc main_arg0)) shapeCasts_S2x128x14336_S256x14336
abbrev sRef : FVec Ideal S_ .f32 := V0 (Proc.devRef .tc main_arg2)

/-- The result is the five blocks side by side. -/
theorem v47_eq : (res_main_v47 V0 : FVec Ideal S256x5120 .bf16)
    = concatenate S256x5120 1 (List.ofFn fun j : Fin 5 => ⟨S256x1024, piece (xRef V0) (digitV (word V0 j)) (sRef V0)⟩)
        concatenates_S256x1024_S256x1024_S256x1024_S256x1024_S256x1024_S256x5120_d1 := rfl

/-- The reference's result, before the last reshape, is the specification's. -/
theorem v47_spec : (res_main_v47 V0 : FVec Ideal S256x5120 .bf16) = Spec.out (xRef V0) (bytes V0) (sRef V0 ix0) := by
  funext (y : S256x5120.Idx)
  have hy : (y 1).val < 5120 := (y 1).isLt
  rw [v47_eq]
  refine (concatenate_ofFn_apply (t := S256x5120) (s₁ := S256x1024) 1 (fun j : Fin 5 => piece (xRef V0) (digitV (word V0 j)) (sRef V0)) _ rfl 1024 rfl y
    ⟨(y 1).val / 1024, by omega⟩ rfl (ix2 (y 0) ⟨(y 1).val % 1024, Nat.mod_lt _ (by norm_num)⟩) rfl ?_).trans ?_
  · intro b hb
    fin_cases b
    · rfl
    · exact absurd rfl hb
  · exact piece_dot (xRef V0) (bytes V0) (sRef V0) _ _ (word_at V0 _) _ _

end Cert.Proof.RefValue

end
-- ==== Proof.Run.lean ====
/-
  Hand-written, untrusted. THE TWO RUNS, in one spelling: each program ends with the specification's array, seen as the result's
  shape, in its result buffer, its arguments unchanged.
-/
module

public import proofs.«01_k».proof.Proof.Array
public import proofs.«01_k».proof.Proof.RefValue
public import Idealize.ShloMosaic.Lib.Claim
public import Idealize.ShloMosaic.Lib.Quiescent

@[expose] public section

set_option maxRecDepth 16384

noncomputable section

namespace Cert.Proof.Run

open Idealize.ShloMosaic Idealize.SL.Sem Idealize.ShloMosaic.TcCoe

section Kernel
open Cert.KernelIdeal Cert.KernelIdeal.Gen

/-- The kernel's result: the specification's array of its arguments, as 2 by 128 by 5120. -/
def val (m : (ℓ : Loc nD τ sig) → Buf (Elt Ideal) ℓ) (c : Dev nD) : Vec Ideal S2x128x5120 .bf16 :=
  shapeCast S2x128x5120 (Spec.out (Array.xArr m c) (Array.wArr m c) (Array.sArr m c ix0)) shapeCasts_S256x5120_S2x128x5120

/-- What the last reshape leaves in the result buffer. -/
theorem tail (m : (ℓ : Loc nD τ sig) → Buf (Elt Ideal) ℓ) (hw : ∀ c i, (Array.wArr m c i).toNat ≤ 242) (c : Dev nD) :
    Pipeline.afterTail₀ cfgs (dats m) 0 (V0 m) [hostOps1] c main_v3 = val m c := by
  unfold Pipeline.afterTail₀ val hostOps1
  show StableHlo.after [_] _ _ = _
  after_results
  have e : Pipeline.withArrays (cfgs 0).spec c (V0 m c) (fun w => (dats m 0 c).arrAt w (cfgs 0).N) (Proc.tc.devRef main_v2)
      = Spec.out (Array.xArr m c) (Array.wArr m c) (Array.sArr m c ix0) :=
    (Pipeline.withArrays_arr (cfgs 0).spec (by decide) c (V0 m c) (fun w => (dats m 0 c).arrAt w (cfgs 0).N) 3).trans
      (Array.final m c (hw c))
  rw [e]
  rfl

/-- The kernel's run. -/
theorem kernel (m : (ℓ : Loc nD τ sig) → Buf (Elt Ideal) ℓ) (g : Dev nD → PrngReg) (hw : ∀ c i, (Array.wArr m c i).toNat ≤ 242) :
    θ_run (defs (F := Ideal)) (onTc (τ := τ) (main (F := Ideal))) ⟨m, fun _ => 0, g⟩ (fun r => ∀ c : Dev nD,
      r.2.mem ((c.tc : Thread nD τ).loc main_v3) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).2 main_v3 (by decide)).trans (tail m hw c), h.1.1 c⟩)
    (θ_run_and (Gen.frame m g) (Gen.run_main m g))
end Kernel

section Reference
open Cert.ReferenceIdeal Cert.ReferenceIdeal.Gen

/-- The reference leaves every counter at zero: it has none. -/
theorem reference_quiescent (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, sem_eq_zero_of_no_sems (by decide) _⟩) (Value.run m g)

/-- The reference's run, on arguments equal to the kernel's, ends with the kernel's result. -/
theorem reference (m : (ℓ : Loc Cert.KernelIdeal.nD Cert.KernelIdeal.τ Cert.KernelIdeal.sig) → Buf (Elt Ideal) ℓ)
    (m' : (ℓ : Loc nD τ sig) → Buf (Elt Ideal) ℓ) (g' : Dev nD → PrngReg)
    (h : ∀ c : Dev nD,
      m' ((c.tc : Thread nD τ).loc main_arg0)
        = m ((c.tc : Thread Cert.KernelIdeal.nD Cert.KernelIdeal.τ).loc Cert.KernelIdeal.main_arg0)
      ∧ m' ((c.tc : Thread nD τ).loc main_arg1)
        = m ((c.tc : Thread Cert.KernelIdeal.nD Cert.KernelIdeal.τ).loc Cert.KernelIdeal.main_arg1)
      ∧ m' ((c.tc : Thread nD τ).loc main_arg2)
        = m ((c.tc : Thread Cert.KernelIdeal.nD Cert.KernelIdeal.τ).loc Cert.KernelIdeal.main_arg2)) :
    θ_run (defs (F := Ideal)) (onTc (τ := τ) (main (F := Ideal))) ⟨m', fun _ => 0, g'⟩ (fun r => ∀ c : Dev nD,
      r.2.mem ((c.tc : Thread nD τ).loc main_v48) = val m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run defs _ _).mono (fun _ hr c => ⟨(hr c).1.trans ?_, (hr c).2⟩) (Value.run m' g')
  obtain ⟨h0, h1, h2⟩ := h c
  have e0 : RefValue.xRef (StableHlo.launchContents m' c) = Array.xArr m c :=
    congrArg (fun v : Vec Ideal S2x128x14336 .bf16 => shapeCast S256x14336 v shapeCasts_S2x128x14336_S256x14336) h0
  have e1 : RefDigits.bytes (StableHlo.launchContents m' c) = Array.wArr m c := h1
  have e2 : RefValue.sRef (StableHlo.launchContents m' c) = Array.sArr m c := h2
  have e := RefValue.v47_spec (StableHlo.launchContents m' c)
  rw [e0, e1, e2] at e
  exact congrArg (fun v : Vec Ideal S256x5120 .bf16 => shapeCast S2x128x5120 v shapeCasts_S256x5120_S2x128x5120) e
end Reference

end Cert.Proof.Run

end
-- ==== Proof.PreCodes.lean ====
/-
  Hand-written, untrusted. THE PRECONDITION: every byte is at most 242. It is stated as one bit, the conjunction over the whole array
  of the comparisons; this module reads it at each byte.
-/
module

public import proofs.«01_k».proof.Defs
public import proofs.«01_k».proof.Proof.Array
public import Idealize.ShloMosaic.Lib.ReduceAll
public import Idealize.ShloMosaic.Lib.Affine

@[expose] public section

set_option maxRecDepth 16384

noncomputable section

namespace Cert.Proof.PreCodes

open Idealize.ShloMosaic Idealize.SL.Sem

/-- What the predicate's operations ask of their shapes. -/
theorem facts : Cert.Pre_codes.Facts where
  natLt_8_32 := by decide
  bcast_S_S14336x1024 := by decide
  reducesTo_S14336x1024_S_d0_1 := by decide
  h_S_ := by decide

/-- Under the precondition every byte of the kernel's argument is at most 242. -/
theorem le_242 (m : (ℓ : Loc Cert.KernelIdeal.nD Cert.KernelIdeal.τ Cert.KernelIdeal.sig) → Buf (Elt Ideal) ℓ)
    (h : Pre_KernelIdeal_codes (hPre_codes := facts) m) (c : Dev Cert.KernelIdeal.nD) (i : Cert.KernelIdeal.S14336x1024.Idx) :
    (Array.wArr m c i).toNat ≤ 242 := by
  have e := congrFun (h c) ix0
  dsimp only [Cert.Pre_codes.fn] at e
  haveI : Subsingleton Cert.Pre_codes.S_.Idx := ⟨fun a b => funext fun k => k.elim0⟩
  have e1 := Host.reduce_andi_all _ _ _ _ _ e i
  have e2 : ((Array.wArr m c i).setWidth 32).toInt ≤ (242#32).toInt := IntOp.cmpi_sle.mp e1
  have hb := (Array.wArr m c i).isLt
  rw [BitVec.toInt_eq_toNat_of_lt (by simp; omega)] at e2
  simp at e2
  omega

end Cert.Proof.PreCodes

end
-- ==== Proof.lean ====
/- Hand-written, untrusted. THE ASSEMBLY: the claims of `Cert.Claim`, each from the module that proves it. The frames are the
   generated ones (the reference's from its run, in `Proof/Run.lean`); the equation of the results is `Run.kernel` and
   `Run.reference`, under the precondition as `PreCodes.le_242` reads it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Run
public import proofs.«01_k».proof.Proof.PreCodes
public import Idealize.ShloMosaic.Adequacy
public import Idealize.ShloMosaic.Init

@[expose] public section

noncomputable section

namespace Cert.Proof

open Idealize.ShloMosaic Idealize.SL.Sem Cert.Kernel

/-- Every claim: the three programs run and leave their arguments unchanged and every counter at zero; the kernel and its idealization
    are one program; and when every byte is at most 242 the idealized kernel and the idealized reference end with the same result. -/
theorem claim : Cert.Claim := ⟨Cert.Kernel.Gen.facts, Cert.KernelIdeal.Gen.facts, Cert.ReferenceIdeal.Gen.facts, by
  exact ⟨PreCodes.facts, fun m g _ => Cert.Kernel.Gen.frame m g, fun m g _ => Cert.KernelIdeal.Gen.frame m g,
    fun m g _ => Cert.KernelIdeal.Gen.frame m g, fun m g _ => Run.reference_quiescent m g, fun m g _ => Run.reference_quiescent m g,
    trivial, fun m g m' g' hpre hagree => ⟨Run.val m, Run.kernel m g (PreCodes.le_242 m hpre), Run.reference m m' g' hagree⟩⟩⟩

end Cert.Proof

end
